-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_cst_3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_close_to_reference_pre_finite_inputs [hKernelIdeal : Cert.KernelIdeal.Facts] [hPre_finite_inputs : Cert.Pre_finite_inputs.Facts] [hPost_close_to_reference : Cert.Post_close_to_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_close_to_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1)) (r.2.mem ((c.tc : Thread Cert.KernelIdeal.nD Cert.KernelIdeal.τ).loc Cert.KernelIdeal.main_cst))).1 = (fun _ => 1#1)
      ∧ (Cert.Post_close_to_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1)) (r.2.mem ((c.tc : Thread Cert.KernelIdeal.nD Cert.KernelIdeal.τ).loc Cert.KernelIdeal.main_cst))).2.1 = (fun _ => 1#1)
      ∧ (Cert.Post_close_to_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1)) (r.2.mem ((c.tc : Thread Cert.KernelIdeal.nD Cert.KernelIdeal.τ).loc Cert.KernelIdeal.main_cst))).2.2 = (fun _ => 1#1))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hPost_close_to_reference : Cert.Post_close_to_reference.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ holds_KernelIdeal_close_to_reference_pre_finite_inputs (hKernelIdeal := hKernelIdeal) (hPre_finite_inputs := hPre_finite_inputs) (hPost_close_to_reference := hPost_close_to_reference)
-- ==== Post_close_to_reference.lean ====
abbrev S4x4096x2048 : Shape := ⟨3, ![4, 4096, 2048]⟩
abbrev S16x2048 : Shape := ⟨2, ![16, 2048]⟩
abbrev S16384x2 : Shape := ⟨2, ![16384, 2]⟩
abbrev S_ : Shape := ⟨0, ![]⟩
abbrev S16384x2048 : Shape := ⟨2, ![16384, 2048]⟩
abbrev S2048x16 : Shape := ⟨2, ![2048, 16]⟩
abbrev S16384x16 : Shape := ⟨2, ![16384, 16]⟩
abbrev S16384 : Shape := ⟨1, ![16384]⟩
abbrev S16384x1 : Shape := ⟨2, ![16384, 1]⟩

class Facts : Prop where
  shapeCasts_S4x4096x2048_S16384x2048 : S4x4096x2048.ShapeCasts S16384x2048
  transposes_S16x2048_S2048x16_1_0 : S16x2048.Transposes [1, 0] S2048x16
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  sliceFits_S16384x16_S16384x2 : S16384x16.Slices (fun _ => 0) S16384x2
  reducesTo_S16384x2_S16384_d1 : S16384x2.ReducesTo [1] S16384
  bcast_S_S16384x1 : S_.BroadcastsInDim S16384x1 (![] : Fin 0 → Fin S16384x1.rank)
  bcast_S16384x1_S16384x2_0_1 : S16384x1.BroadcastsInDim S16384x2 (![0, 1] : Fin 2 → Fin S16384x2.rank)
  bcast_S_S16384x2 : S_.BroadcastsInDim S16384x2 (![] : Fin 0 → Fin S16384x2.rank)
  dot_S16384x2048_S2048x16_S16384x16_1_0_0_1_n_n_wf : DotDims.WF S16384x2048 S2048x16 S16384x16 [1] [0] [0] [1] [] []

variable [Facts]

def dot_S16384x2048_S2048x16_S16384x16_1_0_0_1_n_n : DotDims S16384x2048 S2048x16 S16384x16 where
  lhsContracting := [1]
  rhsContracting := [0]
  lhsNonContracting := [0]
  rhsNonContracting := [1]
  lhsBatch := []
  rhsBatch := []
  wf := dot_S16384x2048_S2048x16_S16384x16_1_0_0_1_n_n_wf
def fn_part1 {F : FTy → Type} [FloatOps F] (main_arg2 : IVec S16384x2 32) (main_arg3 : FVec F S16384x2 .f32) (main_arg4 : FVec F S_ .f32) (main_values : FVec F S16384x2 .f32) (main_indices : IVec S16384x2 32) (main_v15 : FVec F S16384x1 .f32) (main_v16 : FVec F S16384x1 .f32) : IVec S16384x2 1 × IVec S16384x2 1 × IVec S_ 1 :=
  let main_v17 : FVec F S16384x1 .f32 := addf main_v15 main_v16
  let main_v18 : FVec F S16384x2 .f32 := broadcastInDim S16384x2 ![0, 1] bcast_S16384x1_S16384x2_0_1 main_v17
  let main_v19 : FVec F S16384x2 .f32 := Host.divf main_values main_v18
  let main_v20 : IVec S16384x2 1 := cmpi .eq main_arg2 main_indices
  let main_v21 : FVec F S16384x2 .f32 := subf main_arg3 main_v19
  let main_v22 : FVec F S16384x2 .f32 := Host.absf main_v21
  let main_cst_4 : FVec F S_ .f32 := constant S_ .f32 0x1FEC1E4A#32
  let main_v23 : FVec F S16384x2 .f32 := broadcastInDim S16384x2 ![] bcast_S_S16384x2 main_cst_4
  let main_v24 : IVec S16384x2 1 := cmpf .ole main_v22 main_v23
  let main_cst_5 : FVec F S_ .f32 := constant S_ .f32 0x00000000#32
  let main_v25 : IVec S_ 1 := cmpf .oeq main_arg4 main_cst_5
  (main_v20, main_v24, main_v25)

def fn {F : FTy → Type} [FloatOps F] (main_arg0 : FVec F S4x4096x2048 .f32) (main_arg1 : FVec F S16x2048 .f32) (main_arg2 : IVec S16384x2 32) (main_arg3 : FVec F S16384x2 .f32) (main_arg4 : FVec F S_ .f32) : IVec S16384x2 1 × IVec S16384x2 1 × IVec S_ 1 :=
  let main_v0 : FVec F S16384x2048 .f32 := shapeCast S16384x2048 main_arg0 shapeCasts_S4x4096x2048_S16384x2048
  let main_v1 : FVec F S2048x16 .f32 := (transpose S2048x16 [1, 0] · transposes_S16x2048_S2048x16_1_0) main_arg1
  let main_v2 : FVec F S16384x16 .f32 := (fun l r => Host.dotGeneral dot_S16384x2048_S2048x16_S16384x16_1_0_0_1_n_n none l r) main_v0 main_v1
  let main_cst : FVec F S_ .f32 := constant S_ .f32 0xFF800000#32
  let main_v3 : FVec F S16384 .f32 := (fun x v => Host.reduce FloatOps.maximumf x v reducesTo_S16384x16_S16384_d1 h_S_) main_v2 main_cst
  let main_cst_0 : FVec F S_ .f32 := constant S_ .f32 0xFF800000#32
  let main_v4 : FVec F S16384 .f32 := broadcastInDim S16384 ![] bcast_S_S16384 main_cst_0
  let main_v5 : FVec F S16384 .f32 := maximumf main_v4 main_v3
  let main_v6 : FVec F S16384x1 .f32 := broadcastInDim S16384x1 ![0] bcast_S16384_S16384x1_0 main_v5
  let main_v7 : FVec F S16384x16 .f32 := broadcastInDim S16384x16 ![0, 1] bcast_S16384x1_S16384x16_0_1 main_v6
  let main_v8 : FVec F S16384x16 .f32 := subf main_v2 main_v7
  let main_v9 : FVec F S16384x16 .f32 := Host.exp main_v8
  let main_cst_1 : FVec F S_ .f32 := constant S_ .f32 0x00000000#32
  let main_v10 : FVec F S16384 .f32 := (fun x v => Host.reduceAdd x v reducesTo_S16384x16_S16384_d1 h_S_) main_v9 main_cst_1
  let main_v11 : FVec F S16384x1 .f32 := broadcastInDim S16384x1 ![0] bcast_S16384_S16384x1_0 main_v10
  let main_v12 : FVec F S16384x16 .f32 := broadcastInDim S16384x16 ![0, 1] bcast_S16384x1_S16384x16_0_1 main_v11
  let main_v13 : FVec F S16384x16 .f32 := Host.divf main_v9 main_v12
  let main_values : FVec F S16384x2 .f32 := (fun x => (Host.topK S16384x2 1 (FloatOps.cmpfTotal .gt) x sliceFits_S16384x16_S16384x2).1) main_v13
  let main_indices : IVec S16384x2 32 := (fun x => (Host.topK S16384x2 1 (FloatOps.cmpfTotal .gt) x sliceFits_S16384x16_S16384x2).2) main_v13
  let main_cst_2 : FVec F S_ .f32 := constant S_ .f32 0x00000000#32
  let main_v14 : FVec F S16384 .f32 := (fun x v => Host.reduceAdd x v reducesTo_S16384x2_S16384_d1 h_S_) main_values main_cst_2
  let main_v15 : FVec F S16384x1 .f32 := broadcastInDim S16384x1 ![0] bcast_S16384_S16384x1_0 main_v14
  let main_cst_3 : FVec F S_ .f32 := constant S_ .f32 0x1E3CE508#32
  let main_v16 : FVec F S16384x1 .f32 := broadcastInDim S16384x1 ![] bcast_S_S16384x1 main_cst_3
  fn_part1 (F := F) main_arg2 main_arg3 main_arg4 main_values main_indices main_v15 main_v16
-- ==== Pre_finite_inputs.lean ====
abbrev S4x4096x2048 : Shape := ⟨3, ![4, 4096, 2048]⟩
abbrev S16x2048 : Shape := ⟨2, ![16, 2048]⟩
abbrev S_ : Shape := ⟨0, ![]⟩

class Facts : Prop where
  bcast_S_S4x4096x2048 : S_.BroadcastsInDim S4x4096x2048 (![] : Fin 0 → Fin S4x4096x2048.rank)
  bcast_S_S16x2048 : S_.BroadcastsInDim S16x2048 (![] : Fin 0 → Fin S16x2048.rank)

variable [Facts]

def fn {F : FTy → Type} [FloatOps F] (main_arg0 : FVec F S4x4096x2048 .f32) (main_arg1 : FVec F S16x2048 .f32) : IVec S4x4096x2048 1 × IVec S16x2048 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  (main_v2, main_v5)
-- ==== Kernel.lean ====
abbrev S4x4096x2048 : Shape := ⟨3, ![4, 4096, 2048]⟩
abbrev S16x2048 : Shape := ⟨2, ![16, 2048]⟩
abbrev S16384x2048 : Shape := ⟨2, ![16384, 2048]⟩
abbrev S16384x2 : Shape := ⟨2, ![16384, 2]⟩
abbrev S512x2048 : Shape := ⟨2, ![512, 2048]⟩
abbrev S512x2 : Shape := ⟨2, ![512, 2]⟩
abbrev S512x16 : Shape := ⟨2, ![512, 16]⟩
abbrev S512 : Shape := ⟨1, ![512]⟩
abbrev S512x1 : Shape := ⟨2, ![512, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16384x2048, .f32⟩
  | .hbm, ⟨3, _⟩ => ⟨S16384x2, .i32⟩
  | .hbm, ⟨4, _⟩ => ⟨S16384x2, .f32⟩
  | .hbm, ⟨5, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S512x2, .i32⟩
  | .local _ .vmem, ⟨4, _⟩ => ⟨S512x2, .i32⟩
  | .local _ .vmem, ⟨5, _⟩ => ⟨S512x2, .f32⟩
  | .local _ .vmem, ⟨6, _⟩ => ⟨S512x2, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x2048 : Shape := ⟨3, ![4, 4096, 2048]⟩
abbrev S16x2048 : Shape := ⟨2, ![16, 2048]⟩
abbrev S16384x2048 : Shape := ⟨2, ![16384, 2048]⟩
abbrev S2048x16 : Shape := ⟨2, ![2048, 16]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16384x2048, .f32⟩
  | .hbm, ⟨3, _⟩ => ⟨S2048x16, .f32⟩
  | .hbm, ⟨4, _⟩ => ⟨S16384x16, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x16, .f32⟩
  | .hbm, ⟨18, _⟩ => ⟨S16384x16, .f32⟩
  | .hbm, ⟨19, _⟩ => ⟨S16384x2, .f32⟩
  | .hbm, ⟨20, _⟩ => ⟨S16384x2, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x2, .f32⟩
  | .hbm, ⟨25, _⟩ => ⟨S16384x2, .f32⟩
  | .hbm, ⟨26, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩

abbrev nD : Nat := 1
abbrev τ : Topo := Topo.v7x

variable {F : FTy → Type} [FloatOps F]
-- ==== Proof.Top2.lean ====
/- The two greatest of sixteen numbers, ties going to the lower place: that they exist, that they survive an order-preserving
   map, and the three ways the two programs find them: a maximum taken by folding, the least place that attains it,
   and the first two entries of a stable descending sort. -/
module

public import Idealize.ShloMosaic.Lib.SortPrefix
public import Idealize.ShloMosaic.Lib.SortNet.Extract
public import Idealize.ShloMosaic.PureOps.Ideal.Laws

@[expose] public section

noncomputable section

namespace Cert.Proof

open Idealize.ShloMosaic

/-- `a` is the first place of the greatest of the sixteen values `x`, and `b` the first place of the greatest of the
    other fifteen. -/
structure IsTop2 {α : Type} [LinearOrder α] (x : Fin 16 → α) (a b : Fin 16) : Prop where
  le_fst : ∀ j, x j ≤ x a
  fst_first : ∀ j, j < a → x j < x a
  ne : b ≠ a
  le_snd : ∀ j, j ≠ a → x j ≤ x b
  snd_first : ∀ j, j ≠ a → j < b → x j < x b

/-- On a nonempty set of places, some place is the first at which the values are greatest. -/
theorem exists_first_max {α : Type} [LinearOrder α] (x : Fin 16 → α) (s : Finset (Fin 16)) (hs : s.Nonempty) :
    ∃ a ∈ s, (∀ j ∈ s, x j ≤ x a) ∧ ∀ j ∈ s, j < a → x j < x a := by
  obtain ⟨c, hc, hmax⟩ := s.exists_max_image x hs
  have hne : (s.filter fun j => x j = x c).Nonempty := ⟨c, Finset.mem_filter.mpr ⟨hc, rfl⟩⟩
  have hmem := Finset.mem_filter.mp (Finset.min'_mem _ hne)
  refine ⟨(s.filter fun j => x j = x c).min' hne, hmem.1, fun j hj => (hmax j hj).trans_eq hmem.2.symm, fun j hj hlt => ?_⟩
  refine lt_of_lt_of_eq (lt_of_le_of_ne (hmax j hj) fun e => ?_) hmem.2.symm
  exact absurd (Finset.min'_le _ j (Finset.mem_filter.mpr ⟨hj, e⟩)) (not_le.mpr hlt)

/-- Sixteen values always have such a pair of places. -/
theorem exists_isTop2 {α : Type} [LinearOrder α] (x : Fin 16 → α) : ∃ a b, IsTop2 x a b := by
  obtain ⟨a, -, ha, ha'⟩ := exists_first_max x Finset.univ ⟨0, Finset.mem_univ _⟩
  have hne : (Finset.univ.erase a : Finset (Fin 16)).Nonempty := by
    refine Finset.card_pos.mp ?_
    rw [Finset.card_erase_of_mem (Finset.mem_univ a), Finset.card_univ, Fintype.card_fin]
    decide
  obtain ⟨b, hb, hb1, hb2⟩ := exists_first_max x (Finset.univ.erase a) hne
  refine ⟨a, b, fun j => ha j (Finset.mem_univ j), fun j => ha' j (Finset.mem_univ j), Finset.ne_of_mem_erase hb,
    fun j hj => hb1 j (Finset.mem_erase.mpr ⟨hj, Finset.mem_univ j⟩),
    fun j hj => hb2 j (Finset.mem_erase.mpr ⟨hj, Finset.mem_univ j⟩)⟩

/-- A strictly increasing map of the values keeps the two places. -/
theorem IsTop2.map {α β : Type} [LinearOrder α] [LinearOrder β] {x : Fin 16 → α} {a b : Fin 16} (h : IsTop2 x a b)
    {f : α → β} (hf : StrictMono f) : IsTop2 (fun j => f (x j)) a b where
  le_fst j := hf.monotone (h.le_fst j)
  fst_first j hj := hf (h.fst_first j hj)
  ne := h.ne
  le_snd j hj := hf.monotone (h.le_snd j hj)
  snd_first j hj hlt := hf (h.snd_first j hj hlt)

/-! ## The maximum by a fold, and the first place that attains it -/

/-- The fold of `max` from the bottom over sixteen values is the value no other exceeds. -/
theorem fold_max_eq (x : Fin 16 → EReal) (a : Fin 16) (h : ∀ j, x j ≤ x a) :
    Finset.fold max ⊥ x Finset.univ = x a :=
  le_antisymm (Finset.fold_max_le (c := x a) |>.mpr ⟨bot_le, fun j _ => h j⟩)
    (Finset.le_fold_max (c := x a) |>.mpr (Or.inr ⟨a, Finset.mem_univ a, le_rfl⟩))

/-- A fold of the signed minimum from a start that no value exceeds is the least value. -/
theorem fold_minsi_eq (f : Fin 16 → BitVec 32) (z : BitVec 32) (a : Fin 16) (h : ∀ j, (f a).toInt ≤ (f j).toInt)
    (hz : (f a).toInt ≤ z.toInt) : Finset.fold IntOp.minsi z f Finset.univ = f a := by
  refine BitVec.eq_of_toInt_eq ?_
  rw [← Finset.fold_hom (op := IntOp.minsi) (op' := min) (m := BitVec.toInt) fun u v => SortNet.toInt_minsi u v]
  exact le_antisymm (Finset.fold_min_le (c := (f a).toInt) |>.mpr (Or.inr ⟨a, Finset.mem_univ a, le_rfl⟩))
    (Finset.le_fold_min (c := (f a).toInt) |>.mpr ⟨hz, fun j _ => h j⟩)

/-- Place `j` of sixteen as a 32-bit word reads `j` as a signed number. -/
theorem toInt_place (j : Fin 16) : (BitVec.ofNat 32 j.val).toInt = j.val := by
  revert j; decide

/-- Two places with the same 32-bit word are the same place. -/
theorem place_inj (j k : Fin 16) : BitVec.ofNat 32 j.val = BitVec.ofNat 32 k.val ↔ j = k := by
  revert j k; decide

/-- The signed minimum over the places, a place that misses the value `v` counted as 16, is the first place at which
    the values are `v`. -/
theorem first_place (x : Fin 16 → EReal) (v : EReal) (a : Fin 16) (ha : x a = v) (hfirst : ∀ j, j < a → x j ≠ v) :
    Finset.fold IntOp.minsi 2147483647#32 (fun j : Fin 16 => if x j = v then BitVec.ofNat 32 j.val else 16#32)
      Finset.univ = BitVec.ofNat 32 a.val := by
  refine (fold_minsi_eq _ _ a (fun j => ?_) ?_).trans (if_pos ha)
  · beta_reduce
    rw [if_pos ha, toInt_place]
    by_cases hj : x j = v
    · simp only [if_pos hj, toInt_place]
      exact_mod_cast not_lt.mp fun hlt => hfirst j hlt hj
    · simp only [if_neg hj]
      have := a.isLt
      have h16 : (16#32 : BitVec 32).toInt = 16 := by decide
      rw [h16]; omega
  · beta_reduce
    rw [if_pos ha, toInt_place]
    have := a.isLt
    have hz : (2147483647#32 : BitVec 32).toInt = 2147483647 := by decide
    rw [hz]; omega

/-- The first place found among the values themselves. -/
theorem IsTop2.first_place_fst {x : Fin 16 → EReal} {a b : Fin 16} (h : IsTop2 x a b) :
    Finset.fold IntOp.minsi 2147483647#32 (fun j : Fin 16 => if x j = x a then BitVec.ofNat 32 j.val else 16#32)
      Finset.univ = BitVec.ofNat 32 a.val :=
  first_place x (x a) a rfl fun j hj => (h.fst_first j hj).ne

/-- With the greatest value struck out, the fold of `max` gives the second greatest. -/
theorem IsTop2.fold_max_snd {x : Fin 16 → EReal} {a b : Fin 16} (h : IsTop2 x a b) :
    Finset.fold max ⊥ (fun j => if j = a then ⊥ else x j) Finset.univ = x b := by
  refine (fold_max_eq _ b fun j => ?_).trans (if_neg h.ne)
  beta_reduce
  rw [if_neg h.ne]
  by_cases hj : j = a
  · simp only [if_pos hj]; exact bot_le
  · simp only [if_neg hj]; exact h.le_snd j hj

/-- With the greatest value struck out, the first place of the second greatest value, which is not the bottom. -/
theorem IsTop2.first_place_snd {x : Fin 16 → EReal} {a b : Fin 16} (h : IsTop2 x a b) (hb : x b ≠ ⊥) :
    Finset.fold IntOp.minsi 2147483647#32
      (fun j : Fin 16 => if (if j = a then ⊥ else x j) = x b then BitVec.ofNat 32 j.val else 16#32) Finset.univ
        = BitVec.ofNat 32 b.val := by
  refine first_place (fun j => if j = a then ⊥ else x j) (x b) b (if_neg h.ne) fun j hj => ?_
  by_cases hja : j = a
  · simp only [if_pos hja]; exact fun e => hb e.symm
  · simp only [if_neg hja]; exact (h.snd_first j hja hj).ne

/-! ## The first two entries of a stable descending sort -/

/-- Two relations that agree on every later element against an earlier one sort an increasing list alike: a stable
    sort asks nothing else. -/
theorem stableSort_eq_of_increasing {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The source of each entry of a stable sort does not change when ties are decided by the position. -/
theorem sortedFrom_eq_of_ties {n : Nat} (R R' : Fin n → Fin n → Bool) (h : ∀ a b, a < b → R b a = R' b a) :
    sortedFrom R = sortedFrom R' := by
  funext k
  unfold sortedFrom
  have e : sortPositions n R = sortPositions n R' :=
    stableSort_eq_of_increasing R R' h _ (List.pairwise_lt_finRange n)
  rw [List.get_of_eq e]
  rfl

/-- A stable sort of sixteen values, greater first, begins with the value at place `a` and then the one at `b`. -/
theorem IsTop2.sortedFrom_eq {x : Fin 16 → EReal} {a b : Fin 16} (h : IsTop2 x a b) (i : Fin 2) :
    sortedFrom (fun k k' : Fin 16 => decide (x k' < x k)) (i.castLE (by decide)) = (![a, b] : Fin 2 → Fin 16) i := by
  have hB := StrictTotalBefore.of_key_then_position (fun u v : EReal => decide (v < u)) x
    (fun u => by simp) (fun u v w huv hvw => by simp only [decide_eq_true_eq] at *; exact lt_trans hvw huv)
    (fun u v => by simp only [decide_eq_true_eq]; exact (lt_trichotomy v u).imp_right (Or.imp_left Eq.symm))
  rw [sortedFrom_eq_of_ties _ _ fun p q hpq => by
    show decide (x p < x q) = (decide (x p < x q) || (decide (x q = x p) && decide (q < p)))
    rw [decide_eq_false (not_lt.mpr hpq.le), Bool.and_false, Bool.or_false]]
  refine hB.sortedFrom_eq_of_prefix (by decide) ![a, b] ?_ ?_ ?_ i
  · intro p q hpq
    match p, q with
    | 0, 0 => rfl
    | 1, 1 => rfl
    | 0, 1 => exact absurd hpq.symm h.ne
    | 1, 0 => exact absurd hpq h.ne
  · intro p q hpq
    match p, q with
    | 0, 0 => exact absurd hpq (by decide)
    | 1, 1 => exact absurd hpq (by decide)
    | 1, 0 => exact absurd hpq (by decide)
    | 0, 1 =>
      show (decide (x a < x b) || (decide (x b = x a) && decide (b < a))) = false
      rw [decide_eq_false (not_lt.mpr (h.le_fst b)), Bool.false_or, Bool.and_eq_false_iff]
      by_cases e : b < a
      · exact Or.inl (decide_eq_false (h.fst_first b e).ne)
      · exact Or.inr (decide_eq_false e)
  · intro p q hq
    have hqa : q ≠ a := fun e => hq 0 e.symm
    have hqb : q ≠ b := fun e => hq 1 e.symm
    match p with
    | 0 =>
      show (decide (x a < x q) || (decide (x q = x a) && decide (q < a))) = false
      rw [decide_eq_false (not_lt.mpr (h.le_fst q)), Bool.false_or, Bool.and_eq_false_iff]
      by_cases e : q < a
      · exact Or.inl (decide_eq_false (h.fst_first q e).ne)
      · exact Or.inr (decide_eq_false e)
    | 1 =>
      show (decide (x b < x q) || (decide (x q = x b) && decide (q < b))) = false
      rw [decide_eq_false (not_lt.mpr (h.le_snd q hqa)), Bool.false_or, Bool.and_eq_false_iff]
      by_cases e : q < b
      · exact Or.inl (decide_eq_false (h.snd_first q hqa e).ne)
      · exact Or.inr (decide_eq_false e)

end Cert.Proof

end
-- ==== Proof.Weights.lean ====
/- The weights of the two chosen places: the softmax of sixteen real logits, its two greatest entries, and their shares of
   their sum, against the direct form the kernel writes; with the reference's added constant, how far the two lie apart. -/
module

public import proofs.«01_k».proof.Proof.Top2
public import Idealize.ShloMosaic.Lib.IdealHost
public import Mathlib.Algebra.Order.BigOperators.Group.Finset

@[expose] public section

noncomputable section

namespace Cert.Proof

open Idealize.ShloMosaic

/-- The extended real of a finite sum of reals is the sum of the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A quotient of reals by a nonzero real is the real quotient. -/
theorem div_real (x : ℝ) {y : ℝ} (hy : y ≠ 0) : Ideal.div (x : EReal) (y : EReal) = ((x / y : ℝ) : EReal) := by
  rw [Ideal.div_coe hy, ← EReal.coe_mul, mul_one_div]

/-- Entry `j` of the softmax of sixteen values, as the reference computes it: the exponential of the value less the row's
    greatest, over the sum of those exponentials. -/
def score (x : Fin 16 → EReal) (j : Fin 16) : EReal :=
  Ideal.div (Ideal.exp (x j - max ⊥ (Finset.fold max ⊥ x Finset.univ)))
    (∑ k, Ideal.exp (x k - max ⊥ (Finset.fold max ⊥ x Finset.univ)))

/-- The sum of the exponentials of sixteen reals, each less the one at place `a`. -/
def expSum (l : Fin 16 → ℝ) (a : Fin 16) : ℝ := ∑ k, Real.exp (l k - l a)

theorem expSum_pos (l : Fin 16 → ℝ) (a : Fin 16) : 0 < expSum l a :=
  Finset.sum_pos (fun _ _ => Real.exp_pos _) ⟨0, Finset.mem_univ _⟩

/-- The exponential of the second greatest logit less the greatest: between 0 and 1. -/
def gap (l : Fin 16 → ℝ) (a b : Fin 16) : ℝ := Real.exp (l b - l a)

theorem gap_pos (l : Fin 16 → ℝ) (a b : Fin 16) : 0 < gap l a b := Real.exp_pos _

theorem IsTop2.gap_le_one {l : Fin 16 → ℝ} {a b : Fin 16} (h : IsTop2 l a b) : gap l a b ≤ 1 :=
  Real.exp_le_one_iff.mpr (sub_nonpos.mpr (h.le_fst b))

/-- The sum is at most one plus fifteen times the gap: the greatest place gives one, no other more than the second. -/
theorem IsTop2.expSum_le {l : Fin 16 → ℝ} {a b : Fin 16} (h : IsTop2 l a b) : expSum l a ≤ 1 + 15 * gap l a b := by
  unfold expSum
  rw [← Finset.add_sum_erase _ _ (Finset.mem_univ a), sub_self, Real.exp_zero]
  refine add_le_add le_rfl ((Finset.sum_le_card_nsmul _ _ (gap l a b) fun j hj => ?_).trans_eq ?_)
  · exact Real.exp_le_exp.mpr (sub_le_sub_right (h.le_snd j (Finset.ne_of_mem_erase hj)) _)
  · rw [Finset.card_erase_of_mem (Finset.mem_univ a), Finset.card_univ, Fintype.card_fin, nsmul_eq_mul]
    norm_num

/-- On real logits every softmax entry is a real quotient. -/
theorem IsTop2.score_eq {l : Fin 16 → ℝ} {a b : Fin 16} (h : IsTop2 l a b) (j : Fin 16) :
    score (fun k => (l k : EReal)) j = ((Real.exp (l j - l a) / expSum l a : ℝ) : EReal) := by
  have hm : max ⊥ (Finset.fold max ⊥ (fun k => (l k : EReal)) Finset.univ) = (l a : EReal) := by
    rw [fold_max_eq _ a fun k => EReal.coe_le_coe_iff.mpr (h.le_fst k)]
    exact max_eq_right bot_le
  unfold score
  rw [hm]
  have he : ∀ k, Ideal.exp ((l k : EReal) - (l a : EReal)) = ((Real.exp (l k - l a) : ℝ) : EReal) := fun k => by
    rw [← EReal.coe_sub]; rfl
  simp only [he]
  rw [← coe_sum_real]
  exact div_real _ (expSum_pos l a).ne'

/-- The softmax keeps the two greatest places. -/
theorem IsTop2.score {l : Fin 16 → ℝ} {a b : Fin 16} (h : IsTop2 l a b) :
    IsTop2 (score fun k => (l k : EReal)) a b := by
  have e : (Cert.Proof.score fun k => (l k : EReal)) = fun j => (fun u : ℝ => ((Real.exp (u - l a) / expSum l a : ℝ) : EReal)) (l j) :=
    funext fun j => h.score_eq j
  rw [e]
  refine h.map (f := fun u : ℝ => ((Real.exp (u - l a) / expSum l a : ℝ) : EReal)) fun u v huv =>
    EReal.coe_lt_coe_iff.mpr ?_
  exact div_lt_div_of_pos_right (Real.exp_lt_exp.mpr (sub_lt_sub_right huv _)) (expSum_pos l a)

/-- The two weights as real numbers: `1 / (1 + g)` and `g / (1 + g)`, `g` the gap. -/
def weight (l : Fin 16 → ℝ) (a b : Fin 16) (i : Fin 2) : ℝ :=
  (![1, gap l a b] : Fin 2 → ℝ) i / (1 + gap l a b)

/-- The kernel's first weight is the first real weight. -/
theorem kernel_weight_fst (l : Fin 16 → ℝ) (a b : Fin 16) :
    Ideal.div 1 (1 + Ideal.exp ((l b : EReal) - (l a : EReal))) = ((weight l a b 0 : ℝ) : EReal) := by
  rw [← EReal.coe_sub, show Ideal.exp ((l b - l a : ℝ) : EReal) = ((gap l a b : ℝ) : EReal) from rfl, ← EReal.coe_one,
    ← EReal.coe_add]
  exact div_real 1 (by have := gap_pos l a b; positivity)

/-- The kernel's second weight is the second real weight. -/
theorem kernel_weight_snd (l : Fin 16 → ℝ) (a b : Fin 16) :
    Ideal.div (Ideal.exp ((l b : EReal) - (l a : EReal))) (1 + Ideal.exp ((l b : EReal) - (l a : EReal)))
      = ((weight l a b 1 : ℝ) : EReal) := by
  rw [← EReal.coe_sub, show Ideal.exp ((l b - l a : ℝ) : EReal) = ((gap l a b : ℝ) : EReal) from rfl, ← EReal.coe_one,
    ← EReal.coe_add]
  exact div_real _ (by have := gap_pos l a b; positivity)

/-- The two greatest softmax entries as reals. -/
theorem IsTop2.score_pick {l : Fin 16 → ℝ} {a b : Fin 16} (h : IsTop2 l a b) (i : Fin 2) :
    Cert.Proof.score (fun k => (l k : EReal)) ((![a, b] : Fin 2 → Fin 16) i)
      = (((![1, gap l a b] : Fin 2 → ℝ) i / expSum l a : ℝ) : EReal) := by
  rw [h.score_eq]
  match i with
  | 0 =>
    show ((Real.exp (l a - l a) / _ : ℝ) : EReal) = ((1 / _ : ℝ) : EReal)
    rw [sub_self, Real.exp_zero]
  | 1 => rfl

/-- The sum of the two greatest softmax entries. -/
theorem IsTop2.score_pick_sum {l : Fin 16 → ℝ} {a b : Fin 16} (h : IsTop2 l a b) :
    (∑ k : Fin 2, Cert.Proof.score (fun k => (l k : EReal)) ((![a, b] : Fin 2 → Fin 16) k))
      = (((1 + gap l a b) / expSum l a : ℝ) : EReal) := by
  rw [Fin.sum_univ_two, h.score_pick, h.score_pick, ← EReal.coe_add]
  congr 1
  exact (add_div 1 (gap l a b) (expSum l a)).symm

/-- The reference's weight, the chosen softmax entry over the two entries' sum, is the real weight. -/
theorem IsTop2.reference_weight {l : Fin 16 → ℝ} {a b : Fin 16} (h : IsTop2 l a b) (i : Fin 2) :
    Ideal.div (Cert.Proof.score (fun k => (l k : EReal)) ((![a, b] : Fin 2 → Fin 16) i))
      (∑ k : Fin 2, Cert.Proof.score (fun k => (l k : EReal)) ((![a, b] : Fin 2 → Fin 16) k))
        = ((weight l a b i : ℝ) : EReal) := by
  have hg := gap_pos l a b
  have hS := expSum_pos l a
  rw [h.score_pick_sum, h.score_pick, div_real _ (by positivity)]
  congr 1
  unfold weight
  field_simp

/-! ## With the reference's added constant -/

/-- The single-precision number nearest `1e-20`, which the reference adds to the sum before it divides. -/
def eps : ℝ := 12379400 / 2 ^ 90

/-- The single-precision number nearest `1e-19`, the distance the claim allows. -/
def tol : ℝ := 15474250 / 2 ^ 87

theorem ofBits_eps : Ideal.ofBits .f32 0x1E3CE508#32 = (eps : EReal) := by
  unfold eps
  simp [Ideal.ofBits, Ideal.ieee, -EReal.coe_mul]
  norm_num

theorem ofBits_tol : Ideal.ofBits .f32 0x1FEC1E4A#32 = (tol : EReal) := by
  unfold tol
  simp [Ideal.ofBits, Ideal.ieee, -EReal.coe_mul]
  norm_num

theorem eps_pos : 0 < eps := by unfold eps; positivity

theorem eight_eps_le : 8 * eps ≤ tol := by unfold eps tol; norm_num

/-- Adding `e` to the divisor moves a share by at most `8 e`, the sum of the shares being at least an eighth. -/
theorem share_moves (n g S e : ℝ) (hn : 0 ≤ n) (hn1 : n ≤ 1) (hg : 0 ≤ g) (hg1 : g ≤ 1) (hS : 0 < S)
    (hSle : S ≤ 1 + 15 * g) (he : 0 < e) : |n / (1 + g) - n / S / ((1 + g) / S + e)| ≤ 8 * e := by
  have h1 : 0 < 1 + g := by linarith
  have h2 : 0 < 1 + g + e * S := by positivity
  have hd : n / (1 + g) - n / S / ((1 + g) / S + e) = n * (e * S) / ((1 + g) * (1 + g + e * S)) := by
    field_simp
    ring
  have hS8 : S ≤ 8 * (1 + g) := by linarith
  rw [hd, abs_of_nonneg (by positivity), div_le_iff₀ (by positivity)]
  have hge : 1 ≤ 1 + g + e * S := by nlinarith [mul_pos he hS]
  calc n * (e * S) ≤ 1 * (e * S) := by gcongr
    _ = e * S := one_mul _
    _ ≤ e * (8 * (1 + g)) := by gcongr
    _ = 8 * e * ((1 + g) * 1) := by ring
    _ ≤ 8 * e * ((1 + g) * (1 + g + e * S)) := by gcongr

/-- The real weight lies within the allowed distance of the reference's weight computed with the added constant. -/
theorem IsTop2.weight_close {l : Fin 16 → ℝ} {a b : Fin 16} (h : IsTop2 l a b) (i : Fin 2) (d : EReal)
    (hd : d = ((weight l a b i : ℝ) : EReal) - Ideal.div (Cert.Proof.score (fun k => (l k : EReal)) ((![a, b] : Fin 2 → Fin 16) i))
      ((∑ k : Fin 2, Cert.Proof.score (fun k => (l k : EReal)) ((![a, b] : Fin 2 → Fin 16) k)) + (eps : EReal))) :
    max d (-d) ≤ (tol : EReal) := by
  have hg := gap_pos l a b
  have hS := expSum_pos l a
  have he := eps_pos
  have hi : 0 ≤ (![1, gap l a b] : Fin 2 → ℝ) i ∧ (![1, gap l a b] : Fin 2 → ℝ) i ≤ 1 := by
    match i with
    | 0 => exact ⟨zero_le_one, le_rfl⟩
    | 1 => exact ⟨hg.le, h.gap_le_one⟩
  have hm := (share_moves _ (gap l a b) (expSum l a) eps hi.1 hi.2 hg.le h.gap_le_one hS h.expSum_le he).trans eight_eps_le
  rw [h.score_pick_sum, h.score_pick, ← EReal.coe_add, div_real _ (by positivity), ← EReal.coe_sub] at hd
  rw [hd, ← EReal.coe_neg]
  obtain ⟨h1, h2⟩ := abs_le.mp hm
  exact max_le (EReal.coe_le_coe_iff.mpr h2) (EReal.coe_le_coe_iff.mpr (neg_le.mp h1))

end Cert.Proof

end
-- ==== Proof.KernelRows.lean ====
/- One token's row of the two blocks the kernel stores, when that token's sixteen logits are real numbers. -/
module

public import proofs.«01_k».proof.Proof.Weights
public import proofs.«01_k».proof.Proof.Gen.KernelIdeal.Skeleton
public import Idealize.ShloMosaic.Lib.Pointwise

@[expose] public section

noncomputable section

namespace Cert.Proof

open Idealize.ShloMosaic Idealize.ShloMosaic.Pointwise
open Cert.KernelIdeal Cert.KernelIdeal.Gen

/-- The bit pattern both programs write for minus infinity reads as the least extended real. -/
theorem ofBits_neg_inf : Ideal.ofBits .f32 0xFF800000#32 = (⊥ : EReal) := by
  simp [Ideal.ofBits, Ideal.ieee]

section
variable (h : Vec Ideal S512x2048 .f32) (w : Vec Ideal S16x2048 .f32) (r : Fin 512)

/-- A block's logit: the product of the token's row of the block and the expert's row of the weights. -/
theorem pay1_at (j : Fin 16) : k0_pay1 h w (ix2 r j) = ∑ x : Fin 2048, h (ix2 r x) * w (ix2 j x) := by
  pointwise [k0_pay1]

variable (l : Fin 16 → ℝ) (hl : ∀ j, k0_pay1 h w (ix2 r j) = (l j : EReal)) (a b : Fin 16) (ht : IsTop2 l a b)

include hl

theorem logits_row : (fun j => k0_pay1 h w (ix2 r j)) = fun j => (l j : EReal) := funext hl

include ht

/-- The two greatest places of the reals are those of the extended reals. -/
theorem IsTop2.coe_real : IsTop2 (fun j => (l j : EReal)) a b :=
  ht.map (f := fun u : ℝ => (u : EReal)) fun _ _ hlt => EReal.coe_lt_coe_iff.mpr hlt

/-- The row's greatest logit. -/
theorem pay2_at : k0_pay2 h w (ix2 r 0) = (l a : EReal) := by
  have e : k0_pay2 h w (ix2 r 0)
      = Finset.fold max (Ideal.ofBits .f32 0xFF800000#32) (fun j => k0_pay1 h w (ix2 r j)) Finset.univ := by
    pointwise [k0_pay2]
  rw [e, ofBits_neg_inf, logits_row h w r l hl]
  exact fold_max_eq _ a fun k => EReal.coe_le_coe_iff.mpr (ht.le_fst k)

/-- The first place of the greatest logit. -/
theorem pay3_at : k0_pay3 h w (ix2 r 0) = BitVec.ofNat 32 a.val := by
  have e : k0_pay3 h w (ix2 r 0)
      = Finset.fold IntOp.minsi (2147483647#32)
          (fun j : Fin 16 => if k0_pay1 h w (ix2 r j) = k0_pay2 h w (ix2 r 0) then BitVec.ofNat 32 j.val else 16#32)
          Finset.univ := by
    pointwise [k0_pay3]
  rw [e, pay2_at h w r l hl a b ht]
  simp only [hl]
  exact (IsTop2.coe_real h w r l hl a b ht).first_place_fst

/-- The row with its greatest logit struck out. -/
theorem pay4_at (j : Fin 16) : k0_pay4 h w (ix2 r j) = if j = a then (⊥ : EReal) else (l j : EReal) := by
  have e : k0_pay4 h w (ix2 r j)
      = Scalar.select (IntOp.cmpi .eq (BitVec.ofNat 32 j.val) (k0_pay3 h w (ix2 r 0)))
          (Ideal.ofBits .f32 0xFF800000#32) (k0_pay1 h w (ix2 r j)) := by
    pointwise [k0_pay4]
  rw [e, pay3_at h w r l hl a b ht, ofBits_neg_inf, hl]
  unfold Scalar.select
  refine if_congr ?_ rfl rfl
  exact IntOp.cmpi_eq.trans (place_inj j a)

/-- The greatest of what is left. -/
theorem pay5_at : k0_pay5 h w (ix2 r 0) = (l b : EReal) := by
  have e : k0_pay5 h w (ix2 r 0)
      = Finset.fold max (Ideal.ofBits .f32 0xFF800000#32) (fun j => k0_pay4 h w (ix2 r j)) Finset.univ := by
    pointwise [k0_pay5]
  rw [e, ofBits_neg_inf]
  simp only [pay4_at h w r l hl a b ht]
  exact (IsTop2.coe_real h w r l hl a b ht).fold_max_snd

/-- The places the kernel stores for a token: the two greatest logits', in order. -/
theorem pay6_at (i : Fin 2) : k0_pay6 h w (ix2 r i) = BitVec.ofNat 32 ((![a, b] : Fin 2 → Fin 16) i).val := by
  match i with
  | 0 =>
    have e : k0_pay6 h w (ix2 r 0) = k0_pay3 h w (ix2 r 0) := by pointwise [k0_pay6]
    exact e.trans (pay3_at h w r l hl a b ht)
  | 1 =>
    have e : k0_pay6 h w (ix2 r 1)
        = Finset.fold IntOp.minsi (2147483647#32)
            (fun j : Fin 16 => if k0_pay4 h w (ix2 r j) = k0_pay5 h w (ix2 r 0) then BitVec.ofNat 32 j.val else 16#32)
            Finset.univ := by
      pointwise [k0_pay6]
    refine e.trans ?_
    rw [pay5_at h w r l hl a b ht]
    simp only [pay4_at h w r l hl a b ht]
    exact (IsTop2.coe_real h w r l hl a b ht).first_place_snd (EReal.coe_ne_bot _)

/-- The weights the kernel stores for a token: the two real weights. -/
theorem pay7_at (i : Fin 2) : k0_pay7 h w (ix2 r i) = ((weight l a b i : ℝ) : EReal) := by
  match i with
  | 0 =>
    have e : k0_pay7 h w (ix2 r 0)
        = Ideal.div 1 (1 + Ideal.exp (k0_pay5 h w (ix2 r 0) - k0_pay2 h w (ix2 r 0))) := by
      pointwise [k0_pay7]
    refine e.trans ?_
    rw [pay5_at h w r l hl a b ht, pay2_at h w r l hl a b ht]
    exact kernel_weight_fst l a b
  | 1 =>
    have e : k0_pay7 h w (ix2 r 1)
        = Ideal.div (Ideal.exp (k0_pay5 h w (ix2 r 0) - k0_pay2 h w (ix2 r 0)))
            (1 + Ideal.exp (k0_pay5 h w (ix2 r 0) - k0_pay2 h w (ix2 r 0))) := by
      pointwise [k0_pay7]
    refine e.trans ?_
    rw [pay5_at h w r l hl a b ht, pay2_at h w r l hl a b ht]
    exact kernel_weight_snd l a b

end

end Cert.Proof

end
-- ==== Proof.KernelValue.lean ====
/- The kernel's run: its two result arrays row by row as the payloads of the token's block, its constant result, and the
   arguments unchanged. -/
module

public import proofs.«01_k».proof.Proof.KernelRows
public import proofs.«01_k».proof.Proof.Gen.KernelIdeal.Frame
public import Idealize.ShloMosaic.Lib.Pipeline.Value
public import Idealize.ShloMosaic.Lib.Pipeline.ValueKit.Point

@[expose] public section

noncomputable section

namespace Cert.Proof

open Idealize.ShloMosaic Idealize.ShloMosaic.Pointwise Idealize.ShloMosaic.TcCoe Idealize.SL.Sem
open Cert.KernelIdeal Cert.KernelIdeal.Gen

variable (m : (ℓ : Loc nD τ sig) → Buf (Elt Ideal) ℓ) (ρ : Dev nD → PrngReg)

/-- The token of row `r` of block `t`. -/
def token (t : Fin cfg0.N) (r : Fin 512) : Fin 16384 :=
  ⟨512 * t.val + r.val, by have h : t.val < 32 := t.isLt; have := r.isLt; omega⟩

theorem exists_token (q : Fin 16384) : ∃ t r, token t r = q :=
  ⟨⟨q.val / 512, by have := q.isLt; show q.val / 512 < 32; omega⟩, ⟨q.val % 512, by omega⟩,
    Fin.ext (by show 512 * (q.val / 512) + q.val % 512 = q.val; omega)⟩

theorem index0_2 : ∀ t : Fin cfg0.N, win0_2.index t 0 = t.val ∧ win0_2.index t 1 = 0 :=
  (by decide +kernel : ∀ t : Fin grid0.N, win0_2.index t 0 = t.val ∧ win0_2.index t 1 = 0)

theorem index0_3 : ∀ t : Fin cfg0.N, win0_3.index t 0 = t.val ∧ win0_3.index t 1 = 0 :=
  (by decide +kernel : ∀ t : Fin grid0.N, win0_3.index t 0 = t.val ∧ win0_3.index t 1 = 0)

theorem index0_0 : ∀ t : Fin cfg0.N, win0_0.index t 0 = t.val ∧ win0_0.index t 1 = 0 :=
  (by decide +kernel : ∀ t : Fin grid0.N, win0_0.index t 0 = t.val ∧ win0_0.index t 1 = 0)

theorem index0_1 : ∀ t : Fin cfg0.N, win0_1.index t 0 = 0 ∧ win0_1.index t 1 = 0 :=
  (by decide +kernel : ∀ t : Fin grid0.N, win0_1.index t 0 = 0 ∧ win0_1.index t 1 = 0)

/-- Row `r` of block `t` of the array of places is the token's row. -/
theorem read_blk2 (X : Vec Ideal S16384x2 .i32) (t : Fin cfg0.N) (r : Fin 512) (i : Fin 2) :
    (win0_2.blk t).view.read (Elt Ideal) X (ix2 r i) = X (ix2 (token t r) i) := by
  have h := index0_2 t
  refine congrArg X (funext fun d => Fin.ext ?_)
  match d with
  | 0 => show win0_2.index t 0 * 512 + 1 * r.val = 512 * t.val + r.val; omega
  | 1 => show win0_2.index t 1 * 2 + 1 * i.val = i.val; omega

theorem read_blk3 (X : Vec Ideal S16384x2 .f32) (t : Fin cfg0.N) (r : Fin 512) (i : Fin 2) :
    (win0_3.blk t).view.read (Elt Ideal) X (ix2 r i) = X (ix2 (token t r) i) := by
  have h := index0_3 t
  refine congrArg X (funext fun d => Fin.ext ?_)
  match d with
  | 0 => show win0_3.index t 0 * 512 + 1 * r.val = 512 * t.val + r.val; omega
  | 1 => show win0_3.index t 1 * 2 + 1 * i.val = i.val; omega

theorem read_blk0 (X : Vec Ideal S16384x2048 .f32) (t : Fin cfg0.N) (r : Fin 512) (k : Fin 2048) :
    (win0_0.blk t).view.read (Elt Ideal) X (ix2 r k) = X (ix2 (token t r) k) := by
  have h := index0_0 t
  refine congrArg X (funext fun d => Fin.ext ?_)
  match d with
  | 0 => show win0_0.index t 0 * 512 + 1 * r.val = 512 * t.val + r.val; omega
  | 1 => show win0_0.index t 1 * 2048 + 1 * k.val = k.val; omega

theorem read_blk1 (X : Vec Ideal S16x2048 .f32) (t : Fin cfg0.N) (j : Fin 16) (k : Fin 2048) :
    (win0_1.blk t).view.read (Elt Ideal) X (ix2 j k) = X (ix2 j k) := by
  have h := index0_1 t
  refine congrArg X (funext fun d => Fin.ext ?_)
  match d with
  | 0 => show win0_1.index t 0 * 16 + 1 * j.val = j.val; omega
  | 1 => show win0_1.index t 1 * 2048 + 1 * k.val = k.val; omega

/-- The region finds the flattened tokens: the first argument in the shape of a matrix. -/
theorem V_main_v0 (c : Dev nD) : V m c main_v0 = shapeCast S16384x2048 (m ((c : Thread nD τ).loc main_arg0))
    shapeCasts_S4x4096x2048_S16384x2048 := by
  show StableHlo.after hostOps0 (fun b => m (c, b)) (Proc.devRef .tc main_v0) = _
  after_results <;> rfl

/-- Row `r` of the tokens' block at point `t` is the token's row of the flattened tokens. -/
theorem iblk0_at (c : Dev nD) (t : Fin cfg0.N) (r : Fin 512) (k : Fin 2048) :
    iblk m c 0 t (ix2 r k) = shapeCast S16384x2048 (m ((c : Thread nD τ).loc main_arg0))
      shapeCasts_S4x4096x2048_S16384x2048 (ix2 (token t r) k) := by
  rw [← V_main_v0 m c]
  exact read_blk0 (V m c main_v0) t r k

/-- The weights' block is the whole of the weights at every point. -/
theorem iblk1_at (c : Dev nD) (t : Fin cfg0.N) (j : Fin 16) (k : Fin 2048) :
    iblk m c 1 t (ix2 j k) = m ((c : Thread nD τ).loc main_arg1) (ix2 j k) := by
  rw [← V_main_arg1 m c]
  exact read_blk1 (V m c main_arg1) t j k

/-! ## The two result arrays -/

theorem zero_offsets : (![0, 0] : Fin 2 → Nat) = fun _ => 0 := funext fun a => by
  match a with
  | 0 => rfl
  | 1 => rfl

/-- The block of places a point stores is the payload of its two input blocks. -/
theorem out2_eq (x0 : Vec Ideal S512x2048 .f32) (x1 : Vec Ideal S16x2048 .f32) : out0_2 x0 x1 = k0_pay6 x0 x1 := by
  unfold out0_2
  rw [View.canon_unit_zero zero_offsets, View.ld_unit_zero zero_offsets, View.ld_unit_zero zero_offsets]

/-- The block of weights a point stores is the payload of its two input blocks. -/
theorem out3_eq (x0 : Vec Ideal S512x2048 .f32) (x1 : Vec Ideal S16x2048 .f32) : out0_3 x0 x1 = k0_pay7 x0 x1 := by
  unfold out0_3
  rw [View.canon_unit_zero zero_offsets, View.ld_unit_zero zero_offsets, View.ld_unit_zero zero_offsets]

/-- Two points' blocks of places lie apart. -/
theorem apart2 (t t' : Fin cfg0.N) (_ : (cfg0.win 2).flush t = true) (_ : (cfg0.win 2).flush t' = true) (h : t ≠ t') :
    Disjoint ((cfg0.win 2).blk t).view.set ((cfg0.win 2).blk t').view.set :=
  (cfg0.win 2).disjoint_blk fun e => h (Fin.ext (by
    have e0 : win0_2.index t 0 = win0_2.index t' 0 := congrFun e 0
    rw [(index0_2 t).1, (index0_2 t').1] at e0
    exact e0))

/-- Two points' blocks of weights lie apart. -/
theorem apart3 (t t' : Fin cfg0.N) (_ : (cfg0.win 3).flush t = true) (_ : (cfg0.win 3).flush t' = true) (h : t ≠ t') :
    Disjoint ((cfg0.win 3).blk t).view.set ((cfg0.win 3).blk t').view.set :=
  (cfg0.win 3).disjoint_blk fun e => h (Fin.ext (by
    have e0 : win0_3.index t 0 = win0_3.index t' 0 := congrFun e 0
    rw [(index0_3 t).1, (index0_3 t').1] at e0
    exact e0))

/-- The final array of places at a token: the payload of the token's block. -/
theorem places_at (c : Dev nD) (t : Fin cfg0.N) (r : Fin 512) (i : Fin 2) :
    (dats m 0 c).arrAt 2 cfg0.N (ix2 (token t r) i) = k0_pay6 (iblk m c 0 t) (iblk m c 1 t) (ix2 r i) := by
  refine (read_blk2 ((dats m 0 c).arrAt 2 cfg0.N) t r i).symm.trans ?_
  refine (congrFun ((dats m 0 c).read_blk_arrAt_eq_flushed 2 apart2 cfg0.N t t.isLt (flush0_2 t)) (ix2 r i)).trans ?_
  show (dats m 0 c).after 2 t (ix2 r i) = _
  rw [after0_2]
  exact congrFun (out2_eq _ _) _

/-- The final array of weights at a token: the payload of the token's block. -/
theorem weights_at (c : Dev nD) (t : Fin cfg0.N) (r : Fin 512) (i : Fin 2) :
    (dats m 0 c).arrAt 3 cfg0.N (ix2 (token t r) i) = k0_pay7 (iblk m c 0 t) (iblk m c 1 t) (ix2 r i) := by
  refine (read_blk3 ((dats m 0 c).arrAt 3 cfg0.N) t r i).symm.trans ?_
  refine (congrFun ((dats m 0 c).read_blk_arrAt_eq_flushed 3 apart3 cfg0.N t t.isLt (flush0_3 t)) (ix2 r i)).trans ?_
  show (dats m 0 c).after 3 t (ix2 r i) = _
  rw [after0_3]
  exact congrFun (out3_eq _ _) _

/-! ## The run -/

/-- The operation after the region leaves the constant result. -/
theorem W_main_cst (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results <;> rfl

/-- Every run of the kernel from any memory ends with the two result arrays at their final contents, the constant result at
    zero, and the arguments unchanged. -/
theorem kernel_run : θ_run defs (onTc (τ := τ) (main (F := Ideal))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_cst) = constant (F := Ideal) S_ .f32 0x00000000#32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 2, (h c).1 3,
      ((h c).2 main_cst (Pipeline.mem_restRefs_of main_cst (by decide) (by decide))).trans (W_main_cst m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Proof

end
-- ==== Proof.ReferenceRows.lean ====
/- One token's row of the reference's results: the softmax, the stable selection of its two greatest entries, and their shares. -/
module

public import proofs.«01_k».proof.Proof.KernelRows
public import proofs.«01_k».proof.Proof.Gen.ReferenceIdeal

@[expose] public section

noncomputable section

namespace Cert.Proof

open Idealize.ShloMosaic Idealize.ShloMosaic.Pointwise
open Cert.ReferenceIdeal Cert.ReferenceIdeal.Gen

/-- The reference's logits of the flattened tokens. -/
def logits (x : FVec Ideal S16384x2048 .f32) (w : FVec Ideal S16x2048 .f32) : FVec Ideal S16384x16 .f32 :=
  Host.dotGeneral dot_S16384x2048_S2048x16_S16384x16_1_0_0_1_n_n none x
    (transpose S2048x16 [1, 0] w transposes_S16x2048_S2048x16_1_0)

/-- A row's greatest value, repeated along the row, as the reference's softmax takes it. -/
def rowMax (x : FVec Ideal S16384x16 .f32) : FVec Ideal S16384x16 .f32 :=
  broadcastInDim S16384x16 ![0, 1] bcast_S16384x1_S16384x16_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x16_S16384_d1 h_S_)))

/-- A row's sum, repeated along the row. -/
def rowSum (x : FVec Ideal S16384x16 .f32) : FVec Ideal S16384x16 .f32 :=
  broadcastInDim S16384x16 ![0, 1] bcast_S16384x1_S16384x16_0_1 (broadcastInDim S16384x1 ![0] bcast_S16384_S16384x1_0
    (Host.reduceAdd x (constant S_ .f32 0x00000000#32) reducesTo_S16384x16_S16384_d1 h_S_))

/-- The reference's softmax of every row. -/
def softmax (x : FVec Ideal S16384x16 .f32) : FVec Ideal S16384x16 .f32 :=
  Host.divf (Host.exp (subf x (rowMax x))) (rowSum (Host.exp (subf x (rowMax x))))

/-- The two greatest entries of every row, and their places. -/
def top2 (s : FVec Ideal S16384x16 .f32) : FVec Ideal S16384x2 .f32 × IVec S16384x2 32 :=
  Host.topK S16384x2 1 (FloatOps.cmpfTotal .gt) s sliceFits_S16384x16_S16384x2

/-- The sum of every pair of entries. -/
def pairSum (v : FVec Ideal S16384x2 .f32) : FVec Ideal S16384x1 .f32 :=
  broadcastInDim S16384x1 ![0] bcast_S16384_S16384x1_0
    (Host.reduceAdd v (constant S_ .f32 0x00000000#32) reducesTo_S16384x2_S16384_d1 h_S_)

/-- Every pair of entries over its own sum. -/
def shares (v : FVec Ideal S16384x2 .f32) : FVec Ideal S16384x2 .f32 :=
  Host.divf v (broadcastInDim S16384x2 ![0, 1] bcast_S16384x1_S16384x2_0_1 (pairSum v))

theorem logits_at (x : FVec Ideal S16384x2048 .f32) (w : FVec Ideal S16x2048 .f32) (r : Fin 16384) (j : Fin 16) :
    logits x w (ix2 r j) = ∑ k : Fin 2048, x (ix2 r k) * w (ix2 j k) := by
  pointwise [logits]

theorem rowMax_at (x : FVec Ideal S16384x16 .f32) (r : Fin 16384) (j : Fin 16) :
    rowMax x (ix2 r j) = max (Ideal.ofBits .f32 0xFF800000#32)
      (Finset.fold max (Ideal.ofBits .f32 0xFF800000#32) (fun k => x (ix2 r k)) Finset.univ) := by
  pointwise [rowMax]

theorem rowSum_at (x : FVec Ideal S16384x16 .f32) (r : Fin 16384) (j : Fin 16) :
    rowSum x (ix2 r j) = ∑ k : Fin 16, x (ix2 r k) := by
  pointwise [rowSum]

/-- A quotient of arrays is read place by place. -/
theorem divf_at {t : Shape} (x y : FVec Ideal t .f32) (i : t.Idx) : Host.divf x y i = Ideal.div (x i) (y i) := rfl

/-- An entry of the softmax reads its own row of logits alone. -/
theorem softmax_at (x : FVec Ideal S16384x16 .f32) (r : Fin 16384) (j : Fin 16) :
    softmax x (ix2 r j) = score (fun k => x (ix2 r k)) j := by
  have e : ∀ k, Host.exp (subf x (rowMax x)) (ix2 r k)
      = Ideal.exp (x (ix2 r k) - max ⊥ (Finset.fold max ⊥ (fun k => x (ix2 r k)) Finset.univ)) := fun k => by
    rw [← ofBits_neg_inf, ← rowMax_at x r k]; rfl
  unfold softmax
  rw [divf_at, rowSum_at]
  simp only [e]
  rfl

/-- Place `k` of the row through an index. -/
theorem along_ix2 (r : Fin 16384) (c k : Fin 16) :
    (ix2 r c : S16384x16.Idx).along 1 k = ix2 r k := by
  funext d
  match d with
  | 0 => rfl
  | 1 => rfl

/-- Reading the first two places of every row of sixteen. -/
theorem slice_at {α : Type} (y : S16384x16.Idx → α) (r : Fin 16384) (i : Fin 2) :
    extractStridedSlice S16384x2 (fun _ => 0) y sliceFits_S16384x16_S16384x2 (ix2 r i)
      = y (ix2 r (i.castLE (by decide))) := by
  refine congrArg y (funext fun d => Fin.ext ?_)
  match d with
  | 0 => exact Nat.zero_add _
  | 1 => exact Nat.zero_add _

/-- The place of its row from which the stable sort, greater first, fills index `j`. -/
def sortPlace (s : FVec Ideal S16384x16 .f32) (j : S16384x16.Idx) : Fin 16 :=
  sortedFrom (fun k k' : Fin 16 => FloatOps.cmpfTotal (F := Ideal) (φ := .f32) .gt (s (j.along 1 k)) (s (j.along 1 k')) == 1#1) (j 1)

/-- The selected entries are the first two places of the sorted rows. -/
theorem top2_fst_eq (s : FVec Ideal S16384x16 .f32) :
    (top2 s).1 = extractStridedSlice S16384x2 (fun _ => 0) (fun j : S16384x16.Idx => s (j.along 1 (sortPlace s j)))
      sliceFits_S16384x16_S16384x2 := rfl

/-- The selected places are those the sorted rows' first two entries came from. -/
theorem top2_snd_eq (s : FVec Ideal S16384x16 .f32) :
    (top2 s).2 = extractStridedSlice S16384x2 (fun _ => 0)
      (fun j : S16384x16.Idx => BitVec.ofNat 32 ((j.along 1 (sortPlace s j)) 1).val) sliceFits_S16384x16_S16384x2 := rfl

section
variable (s : FVec Ideal S16384x16 .f32) (r : Fin 16384) (a b : Fin 16) (ht : IsTop2 (fun k => s (ix2 r k)) a b)

include ht

/-- The stable sort of a row takes its first two entries from the row's two greatest. -/
theorem sortPlace_at (i : Fin 2) : sortPlace s (ix2 r (i.castLE (by decide))) = (![a, b] : Fin 2 → Fin 16) i := by
  rw [← ht.sortedFrom_eq i]
  unfold sortPlace
  refine congrArg (fun R : Fin 16 → Fin 16 → Bool => sortedFrom R (i.castLE (by decide))) ?_
  funext k k'
  rw [along_ix2, along_ix2]
  show (BitVec.ofBool (decide (s (ix2 r k') < s (ix2 r k))) == 1#1) = decide (s (ix2 r k') < s (ix2 r k))
  generalize decide (s (ix2 r k') < s (ix2 r k)) = q
  cases q <;> rfl

/-- The entries the selection returns. -/
theorem top2_fst_at (i : Fin 2) : (top2 s).1 (ix2 r i) = s (ix2 r ((![a, b] : Fin 2 → Fin 16) i)) := by
  rw [top2_fst_eq, slice_at, along_ix2, sortPlace_at s r a b ht]

/-- The places the selection returns. -/
theorem top2_snd_at (i : Fin 2) : (top2 s).2 (ix2 r i) = BitVec.ofNat 32 ((![a, b] : Fin 2 → Fin 16) i).val := by
  rw [top2_snd_eq, slice_at, along_ix2, sortPlace_at s r a b ht]
  rfl

end

theorem pairSum_at (v : FVec Ideal S16384x2 .f32) (r : Fin 16384) (i : Fin 1) :
    pairSum v (ix2 r i) = ∑ k : Fin 2, v (ix2 r k) := by
  pointwise [pairSum]

/-- A pair of columns repeated from one. -/
theorem repeat_at (v : FVec Ideal S16384x1 .f32) (r : Fin 16384) (i : Fin 2) :
    broadcastInDim S16384x2 ![0, 1] bcast_S16384x1_S16384x2_0_1 v (ix2 r i) = v (ix2 r 0) := by
  pointwise

theorem shares_at (v : FVec Ideal S16384x2 .f32) (r : Fin 16384) (i : Fin 2) :
    shares v (ix2 r i) = Ideal.div (v (ix2 r i)) (∑ k : Fin 2, v (ix2 r k)) := by
  unfold shares
  rw [divf_at, repeat_at, pairSum_at]

section
variable (x : FVec Ideal S16384x16 .f32) (r : Fin 16384) (l : Fin 16 → ℝ) (hl : ∀ j, x (ix2 r j) = (l j : EReal))
  (a b : Fin 16) (ht : IsTop2 l a b)

include hl ht

theorem softmax_row (j : Fin 16) : softmax x (ix2 r j) = score (fun k => (l k : EReal)) j := by
  rw [softmax_at]
  simp only [hl]

theorem softmax_top : IsTop2 (fun k => softmax x (ix2 r k)) a b := by
  rw [funext (softmax_row x r l hl a b ht)]
  exact ht.score

/-- The reference's places for a token with real logits: those of the two greatest logits. -/
theorem reference_places_at (i : Fin 2) :
    (top2 (softmax x)).2 (ix2 r i) = BitVec.ofNat 32 ((![a, b] : Fin 2 → Fin 16) i).val :=
  top2_snd_at _ r a b (softmax_top x r l hl a b ht) i

/-- The two greatest softmax entries of a token with real logits. -/
theorem reference_entries_at (i : Fin 2) :
    (top2 (softmax x)).1 (ix2 r i) = score (fun k => (l k : EReal)) ((![a, b] : Fin 2 → Fin 16) i) := by
  rw [top2_fst_at _ r a b (softmax_top x r l hl a b ht) i, softmax_row x r l hl a b ht]

/-- The reference's weights for a token with real logits: the two real weights. -/
theorem reference_weights_at (i : Fin 2) :
    shares (top2 (softmax x)).1 (ix2 r i) = ((weight l a b i : ℝ) : EReal) := by
  rw [shares_at]
  simp only [reference_entries_at x r l hl a b ht]
  exact ht.reference_weight i

end

end Cert.Proof

end
-- ==== Proof.Finite.lean ====
/- The precondition read: every input is a real number, and so is every logit. -/
module

public import proofs.«01_k».proof.Proof.ReferenceRows
public import proofs.«01_k».proof.Proof.Gen.Pre_finite_inputs

@[expose] public section

noncomputable section

namespace Cert.Proof

open Idealize.ShloMosaic Idealize.ShloMosaic.Pointwise

/-- A value whose absolute value compares below plus infinity is a real number. -/
theorem real_of_below (x : EReal) (h : Ideal.cmp .olt (max x (-x)) (Ideal.ofBits .f32 0x7F800000#32) = 1#1) :
    ∃ u : ℝ, x = (u : EReal) := by
  have htop : Ideal.ofBits .f32 0x7F800000#32 = (⊤ : EReal) := by simp [Ideal.ofBits, Ideal.ieee]
  have hlt : max x (-x) < ⊤ := by
    rw [htop] at h
    by_contra hn
    have e : Ideal.cmp .olt (max x (-x)) ⊤ = BitVec.ofBool (decide (max x (-x) < ⊤)) := rfl
    rw [e, decide_eq_false hn] at h
    exact absurd h (by decide)
  induction x using EReal.rec with
  | bot => exact absurd hlt (by simp)
  | coe u => exact ⟨u, rfl⟩
  | top => exact absurd hlt (by simp)

section
variable (x : FVec Ideal Cert.Pre_finite_inputs.S4x4096x2048 .f32) (w : FVec Ideal Cert.Pre_finite_inputs.S16x2048 .f32)
  (h : (Cert.Pre_finite_inputs.fn x w).1 = (fun _ => 1#1) ∧ (Cert.Pre_finite_inputs.fn x w).2 = fun _ => 1#1)

include h

theorem real_tokens (i) : ∃ u : ℝ, x i = (u : EReal) := real_of_below _ (congrFun h.1 i)

theorem real_experts (i) : ∃ u : ℝ, w i = (u : EReal) := real_of_below _ (congrFun h.2 i)

/-- Every logit of finite inputs is a real number. -/
theorem real_logits (hc : Cert.Pre_finite_inputs.S4x4096x2048.ShapeCasts Cert.ReferenceIdeal.S16384x2048) (q : Fin 16384) :
    ∃ l : Fin 16 → ℝ, ∀ j, logits (shapeCast Cert.ReferenceIdeal.S16384x2048 x hc) w (ix2 q j) = (l j : EReal) := by
  choose u hu using real_tokens x w h
  choose v hv using real_experts x w h
  have hx : ∀ k : Fin 2048, ∃ y : ℝ, shapeCast Cert.ReferenceIdeal.S16384x2048 x hc (ix2 q k) = (y : EReal) :=
    fun k => ⟨u _, hu _⟩
  choose y hy using hx
  refine ⟨fun j => ∑ k : Fin 2048, y k * v (ix2 j k), fun j => ?_⟩
  rw [logits_at, coe_sum_real]
  refine Finset.sum_congr rfl fun k _ => ?_
  rw [hy, hv, EReal.coe_mul]

end

end Cert.Proof

end
-- ==== Proof.Post.lean ====
/- The reference with its added constant, and the comparison with it, read at a token's row. -/
module

public import proofs.«01_k».proof.Proof.ReferenceRows
public import proofs.«01_k».proof.Proof.Gen.Post_close_to_reference

@[expose] public section

noncomputable section

namespace Cert.Proof

open Idealize.ShloMosaic Idealize.ShloMosaic.Pointwise
open Cert.Post_close_to_reference Cert.Post_close_to_reference.Gen

/-- The sum of every pair of entries with the reference's constant added. -/
def pairSumEps (v : FVec Ideal S16384x2 .f32) : FVec Ideal S16384x1 .f32 :=
  addf (pairSum v) (broadcastInDim S16384x1 ![] bcast_S_S16384x1 (constant S_ .f32 0x1E3CE508#32))

/-- Every pair of entries over that sum: the reference's weights, its added constant kept. -/
def sharesEps (v : FVec Ideal S16384x2 .f32) : FVec Ideal S16384x2 .f32 :=
  Host.divf v (broadcastInDim S16384x2 ![0, 1] bcast_S16384x1_S16384x2_0_1 (pairSumEps v))

/-- The allowed distance, at every place. -/
def tolerance : FVec Ideal S16384x2 .f32 :=
  broadcastInDim S16384x2 ![] bcast_S_S16384x2 (constant S_ .f32 0x1FEC1E4A#32)

/-- The reference's softmax of every token's logits. -/
def scores (x : FVec Ideal S4x4096x2048 .f32) (w : FVec Ideal S16x2048 .f32) : FVec Ideal S16384x16 .f32 :=
  softmax (logits (shapeCast S16384x2048 x shapeCasts_S4x4096x2048_S16384x2048) w)

/-- The comparison asks three things: the same places, weights within the allowed distance, and a zero loss. -/
theorem close_eq (x : FVec Ideal S4x4096x2048 .f32) (w : FVec Ideal S16x2048 .f32) (p : IVec S16384x2 32)
    (v : FVec Ideal S16384x2 .f32) (z : FVec Ideal S_ .f32) :
    fn x w p v z = (cmpi .eq p (top2 (scores x w)).2,
      cmpf .ole (Host.absf (subf v (sharesEps (top2 (scores x w)).1))) tolerance,
      cmpf .oeq z (constant S_ .f32 0x00000000#32)) := rfl

theorem pairSumEps_at (v : FVec Ideal S16384x2 .f32) (r : Fin 16384) :
    pairSumEps v (ix2 r 0) = (∑ k : Fin 2, v (ix2 r k)) + (eps : EReal) := by
  rw [← pairSum_at v r 0, ← ofBits_eps]
  rfl

theorem sharesEps_at (v : FVec Ideal S16384x2 .f32) (r : Fin 16384) (i : Fin 2) :
    sharesEps v (ix2 r i) = Ideal.div (v (ix2 r i)) ((∑ k : Fin 2, v (ix2 r k)) + (eps : EReal)) := by
  rw [← pairSumEps_at v r]
  unfold sharesEps
  exact (divf_at _ _ _).trans (congrArg (Ideal.div (v (ix2 r i))) (repeat_at (pairSumEps v) r i))

theorem tolerance_at (i : S16384x2.Idx) : tolerance i = (tol : EReal) := ofBits_tol

end Cert.Proof

end
-- ==== Proof.Rows.lean ====
/- The kernel's two result arrays against the reference's, token by token. -/
module

public import proofs.«01_k».proof.Proof.KernelValue
public import proofs.«01_k».proof.Proof.Finite
public import proofs.«01_k».proof.Proof.Post

@[expose] public section

noncomputable section

namespace Cert.Proof

open Idealize.ShloMosaic Idealize.ShloMosaic.Pointwise Idealize.ShloMosaic.TcCoe
open Cert.KernelIdeal Cert.KernelIdeal.Gen

section
variable (m : (ℓ : Loc nD τ sig) → Buf (Elt Ideal) ℓ) (c : Dev nD)

/-- The first argument, as launched. -/
abbrev tokens : FVec Ideal S4x4096x2048 .f32 := m ((c : Thread nD τ).loc main_arg0)

/-- The second argument, as launched. -/
abbrev experts : FVec Ideal S16x2048 .f32 := m ((c : Thread nD τ).loc main_arg1)

/-- The reference's logits of the launched arguments. -/
def logitsOf : FVec Ideal Cert.ReferenceIdeal.S16384x16 .f32 :=
  logits (shapeCast S16384x2048 (tokens m c) shapeCasts_S4x4096x2048_S16384x2048) (experts m c)

/-- The kernel's logit of a row of a block is the reference's logit of the token. -/
theorem pay1_eq_logits (t : Fin cfg0.N) (r : Fin 512) (j : Fin 16) :
    k0_pay1 (iblk m c 0 t) (iblk m c 1 t) (ix2 r j) = logitsOf m c (ix2 (token t r) j) := by
  unfold logitsOf
  rw [logits_at]
  refine (pay1_at _ _ r j).trans (Finset.sum_congr rfl fun k _ => ?_)
  rw [iblk0_at, iblk1_at]

variable (hfin : (Cert.Pre_finite_inputs.fn (tokens m c) (experts m c)).1 = (fun _ => 1#1)
  ∧ (Cert.Pre_finite_inputs.fn (tokens m c) (experts m c)).2 = fun _ => 1#1)

include hfin

/-- At every token of finite inputs: real logits with two greatest places, which the kernel's places are, and whose real
    weights the kernel's weights are. -/
theorem kernel_token (q : Fin 16384) : ∃ (l : Fin 16 → ℝ) (a b : Fin 16), IsTop2 l a b
    ∧ (∀ j, logitsOf m c (ix2 q j) = (l j : EReal))
    ∧ (∀ i : Fin 2, (dats m 0 c).arrAt 2 cfg0.N (ix2 q i) = BitVec.ofNat 32 ((![a, b] : Fin 2 → Fin 16) i).val)
    ∧ ∀ i : Fin 2, (dats m 0 c).arrAt 3 cfg0.N (ix2 q i) = ((weight l a b i : ℝ) : EReal) := by
  obtain ⟨l, hl⟩ := real_logits (tokens m c) (experts m c) hfin shapeCasts_S4x4096x2048_S16384x2048 q
  obtain ⟨a, b, ht⟩ := exists_isTop2 l
  obtain ⟨t, r, rfl⟩ := exists_token q
  have hp : ∀ j, k0_pay1 (iblk m c 0 t) (iblk m c 1 t) (ix2 r j) = (l j : EReal) :=
    fun j => (pay1_eq_logits m c t r j).trans (hl j)
  exact ⟨l, a, b, ht, hl, fun i => (places_at m c t r i).trans (pay6_at _ _ r l hp a b ht i),
    fun i => (weights_at m c t r i).trans (pay7_at _ _ r l hp a b ht i)⟩

/-- The kernel's places are the reference's. -/
theorem places_eq : (dats m 0 c).arrAt 2 cfg0.N = (top2 (softmax (logitsOf m c))).2 := by
  funext y
  obtain ⟨q, i, rfl⟩ : ∃ (q : Fin 16384) (i : Fin 2), y = ix2 q i := ⟨y 0, y 1, eq_ix2 y⟩
  obtain ⟨l, a, b, ht, hl, h2, -⟩ := kernel_token m c hfin q
  exact (h2 i).trans (reference_places_at (logitsOf m c) q l hl a b ht i).symm

/-- The kernel's weights are the shares of the reference's two softmax entries in their sum. -/
theorem weights_eq : (dats m 0 c).arrAt 3 cfg0.N = shares (top2 (softmax (logitsOf m c))).1 := by
  funext y
  obtain ⟨q, i, rfl⟩ : ∃ (q : Fin 16384) (i : Fin 2), y = ix2 q i := ⟨y 0, y 1, eq_ix2 y⟩
  obtain ⟨l, a, b, ht, hl, -, h3⟩ := kernel_token m c hfin q
  exact (h3 i).trans (reference_weights_at (logitsOf m c) q l hl a b ht i).symm

/-- The kernel's weights lie within the allowed distance of the reference's, its added constant kept. -/
theorem weights_close (y : Cert.ReferenceIdeal.S16384x2.Idx) :
    Host.absf (subf (φ := .f32) (F := Ideal) ((dats m 0 c).arrAt 3 cfg0.N)
      (sharesEps (top2 (softmax (logitsOf m c))).1)) y ≤ (tol : EReal) := by
  obtain ⟨q, i, rfl⟩ : ∃ (q : Fin 16384) (i : Fin 2), y = ix2 q i := ⟨y 0, y 1, eq_ix2 y⟩
  obtain ⟨l, a, b, ht, hl, -, h3⟩ := kernel_token m c hfin q
  refine ht.weight_close i _ ?_
  refine congrArg₂ (fun u v : EReal => u - v) (h3 i) ?_
  rw [sharesEps_at]
  simp only [reference_entries_at (logitsOf m c) q l hl a b ht]

end

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Gen.Post_close_to_reference
public import proofs.«01_k».proof.Proof.Rows
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

/-- The reference leaves its arguments and its counters as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => ⟨(h c).2.2.2.1, (h c).2.2.2.2⟩,
      sem_eq_zero_of_no_sems (by decide) r.2⟩)
    (Cert.ReferenceIdeal.Value.run (F := Ideal) m g)

/-- On finite inputs the kernel's three results are the reference's. -/
theorem algebraic : Cert.algebraic_KernelIdeal_ReferenceIdeal_pre_finite_inputs := by
  intro m g m' g' hpre hagree
  refine ⟨_, _, _, kernel_run m g, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' g')
  · rw [(hagree c).1, (hagree c).2]
    exact (places_eq m c (hpre c)).symm
  · unfold Cert.ReferenceIdeal.Value.res_main_v17
    rw [(hagree c).1, (hagree c).2]
    exact (weights_eq m c (hpre c)).symm

/-- On finite inputs the kernel's places are the reference's, its weights within the allowed distance of the reference's with
    the added constant kept, and its loss the reference's. -/
theorem close : Cert.holds_KernelIdeal_close_to_reference_pre_finite_inputs := by
  intro m g hpre
  refine (θ_run Cert.KernelIdeal.defs _ _).mono (fun _ h c => ?_) (kernel_run m g)
  obtain ⟨h0, h1, h2, ha, hb⟩ := h c
  refine ⟨ha, hb, ?_⟩
  rw [h0, h1, h2]
  refine ⟨funext fun y => ?_, funext fun y => ?_, funext fun y => ?_⟩
  · exact IntOp.cmpi_eq.mpr (congrFun (places_eq m c (hpre c)) y)
  · show BitVec.ofBool (decide _) = 1#1
    rw [decide_eq_true]
    · rfl
    · exact (weights_close m c (hpre c) y).trans_eq (tolerance_at y).symm
  · show BitVec.ofBool (decide _) = 1#1
    rw [decide_eq_true]
    · rfl
    · rfl

theorem claim : Cert.Claim :=
  ⟨Cert.Kernel.Gen.facts, Cert.KernelIdeal.Gen.facts, Cert.ReferenceIdeal.Gen.facts, Cert.Pre_finite_inputs.Gen.facts,
    Cert.Post_close_to_reference.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, algebraic, close⟩

end Cert.Proof

end
